-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x4096x2048 : Shape := ⟨3, ![4, 4096, 2048]⟩
abbrev S4096x2048 : Shape := ⟨2, ![4096, 2048]⟩
abbrev S4x128x2048 : Shape := ⟨3, ![4, 128, 2048]⟩
abbrev S128x2048 : Shape := ⟨2, ![128, 2048]⟩
abbrev S1x128x2048 : Shape := ⟨3, ![1, 128, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4096x2048, .f32⟩
  | .hbm, ⟨2, _⟩ => ⟨S4x4096x2048, .f32⟩
  | .local _ .vmem, ⟨0, _⟩ => ⟨S4x128x2048, .f32⟩
  | .local _ .vmem, ⟨1, _⟩ => ⟨S4x128x2048, .f32⟩
  | .local _ .vmem, ⟨2, _⟩ => ⟨S128x2048, .f32⟩
  | .local _ .vmem, ⟨3, _⟩ => ⟨S128x2048, .f32⟩
  | .local _ .vmem, ⟨4, _⟩ => ⟨S4x128x2048, .f32⟩
  | .local _ .vmem, ⟨5, _⟩ => ⟨S4x128x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S4x4096x2048 : Shape := ⟨3, ![4, 4096, 2048]⟩
abbrev S4096x2048 : Shape := ⟨2, ![4096, 2048]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096x2048 : Shape := ⟨3, ![1, 4096, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4096x2048, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x2048, .f32⟩
  | .hbm, ⟨22, _⟩ => ⟨S4096x2048, .i1⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S1x4096x2048, .f32⟩
  | .hbm, ⟨27, _⟩ => ⟨S4x4096x2048, .f32⟩
  | .hbm, ⟨28, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Sum.Spec.lean ====
/- The function that both programs are shown to compute: row `p` of the table of positions added to row `p` of every
   sequence of the batch. -/
module

public import Idealize.ShloMosaic.Lib.ValueIdxCore

@[expose] public section

noncomputable section

namespace Cert.Sum

open Idealize.ShloMosaic Idealize.ShloMosaic.ValueIdx

variable {F : FTy → Type} [FloatOps F]

/-- The batch of sequences, `[batch, position, feature]`. -/
abbrev Batch : Shape := ⟨3, ![4, 4096, 2048]⟩
/-- The table of positions, `[position, feature]`. -/
abbrev Table : Shape := ⟨2, ![4096, 2048]⟩

/-- `x[b, p, d] + pe[p, d]`. -/
def withPositions (x : Vec F Batch .f32) (pe : Vec F Table .f32) : Vec F Batch .f32 :=
  fun i => FloatOps.addf (x i) (pe (ix2 (i 1) (i 2)))

end Cert.Sum

end
-- ==== Proof.Sum.KernelIdeal.lean ====
/- What the idealized kernel leaves in its result array, in any float arithmetic (read off at the extended reals). -/
module

public import proofs.«01_k».proof.Proof.Sum.Spec
public import proofs.«01_k».proof.Proof.Gen.KernelIdeal.Value
public import Idealize.ShloMosaic.Lib.Pipeline.ValueKit.Geometry
public import Idealize.ShloMosaic.Lib.Pipeline.ValueKit.Acc

@[expose] public section

noncomputable section

namespace Cert.Sum.KernelIdeal

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- Grid point `t` stages rows `128 t … 128 t + 127` of every sequence. -/
theorem index_x : ∀ t : Fin cfg0.N, win0_0.index t = ![0, t.val, 0] :=
  (by decide +kernel : ∀ t : Fin grid0.N, win0_0.index t = ![0, t.val, 0])
/-- It stages the same rows of the table. -/
theorem index_pe : ∀ t : Fin cfg0.N, win0_1.index t = ![t.val, 0] :=
  (by decide +kernel : ∀ t : Fin grid0.N, win0_1.index t = ![t.val, 0])
/-- It writes back the same rows of every sequence of the result. -/
theorem index_out : ∀ t : Fin cfg0.N, win0_2.index t = ![0, t.val, 0] :=
  (by decide +kernel : ∀ t : Fin grid0.N, win0_2.index t = ![0, t.val, 0])

/-- The body's result at an index of its block: the staged entry of the sequence plus the staged entry of the table. -/
theorem out_apply (x : Vec F S4x128x2048 .f32) (pe : Vec F S128x2048 .f32) (y : S4x128x2048.Idx) :
    out0_2 x pe y = FloatOps.addf (x y) (pe (ix2 (y 1) (y 2))) := by
  unfold out0_2
  rw [Value.canon2_eq, View.ld_unit_lit _ _ (by decide), View.ld_unit_lit _ _ (by decide)]
  refine congrArg₂ FloatOps.addf (congrArg x (funext fun a => by match a with | ⟨0, _⟩ => rfl | ⟨1, _⟩ => rfl | ⟨2, _⟩ => rfl))
    (congrArg pe (funext fun a => by match a with | ⟨0, _⟩ => rfl | ⟨1, _⟩ => rfl))

/-- The result array after the run, whole: the sum of the two argument arrays as they were launched. -/
theorem final (c : Dev nD) :
    (dats m 0 c).arrAt 2 cfg0.N
      = withPositions (m ((c : Thread nD τ).loc main_arg0)) (m ((c : Thread nD τ).loc main_arg1)) := by
  refine (dats m 0 c).arrAt_eq_of_covers 2 _ (by decide +kernel) fun t hf y => ?_
  blk_simp
  rw [after0_2, out_apply]
  unfold withPositions
  refine congrArg₂ FloatOps.addf ?_ ?_
  · exact congrArg (m ((c : Thread nD τ).loc main_arg0)) (by blk_ext [index_x, index_out])
  · refine congrArg (m ((c : Thread nD τ).loc main_arg1)) (funext fun a => Fin.ext ?_)
    match a with
    | ⟨0, _⟩ =>
      show ((win0_1.blk t).view.emb (ix2 (y 1) (y 2)) 0).val = ((win0_2.blk t).view.emb y 1).val
      blk_simp [index_pe, index_out]
      rfl
    | ⟨1, _⟩ =>
      show ((win0_1.blk t).view.emb (ix2 (y 1) (y 2)) 1).val = ((win0_2.blk t).view.emb y 2).val
      blk_simp [index_pe, index_out]
      rfl

/-- Every execution of the kernel ends with the sum in the result array and its arguments unchanged. -/
theorem run : θ_run defs (onTc (τ := τ) (main (F := F))) ⟨m, fun _ => 0, ρ⟩ fun r => ∀ c : Dev nD,
      r.2.mem ((c : Thread nD τ).loc main_v0)
        = withPositions (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Sum.KernelIdeal

end
-- ==== Proof.Sum.Take.lean ====
/- The reference's embedding lookup. Its text wraps a negative position round, gathers the rows, and replaces the rows
   whose position lies outside the table by NaN. At the positions 0, 1, …, 4095, in their order, nothing of this acts:
   the lookup returns the table. -/
module

public import proofs.«01_k».proof.Proof.Sum.Spec
public import Idealize.ShloMosaic.Lib.Routing.Ops
public import Idealize.ShloMosaic.Lib.ReduceAll
public import Idealize.ShloMosaic.Lib.WordCmp
public import Idealize.ShloMosaic.Lib.Pipeline.Value

@[expose] public section

noncomputable section

namespace Cert.Sum

open Idealize.ShloMosaic Idealize.ShloMosaic.ValueIdx

variable {F : FTy → Type} [FloatOps F]

/-- One word per position. -/
abbrev Pos : Shape := ⟨1, ![4096]⟩
/-- The same words as a column, one start index per row of it. -/
abbrev PosCol : Shape := ⟨2, ![4096, 1]⟩

/-- A position's word is not negative. -/
theorem pos_not_neg {p : Nat} (h : p < 4096) : IntOp.cmpi .slt (BitVec.ofNat 32 p) 0#32 = 0#1 := by
  rw [WordCmp.cmpi_slt_eq, WordCmp.toInt_ofNat_of_lt (by omega : p < 2 ^ (32 - 1))]
  exact (WordCmp.ofBool_decide_eq_zero_iff _).2 (by show ¬((p : Int) < 0); omega)

/-- A position's word is inside the table: at least 0 and at most 4095. -/
theorem pos_in_table {p : Nat} (h : p < 4096) :
    IntOp.andi (IntOp.cmpi .sge (BitVec.ofNat 32 p) 0#32) (IntOp.cmpi .sle (BitVec.ofNat 32 p) 4095#32) = 1#1 := by
  rw [WordCmp.cmpi_sge_eq, WordCmp.cmpi_sle_eq, WordCmp.toInt_ofNat_of_lt (by omega : p < 2 ^ (32 - 1)),
    decide_eq_true (show (0#32).toInt ≤ (p : Int) by show (0 : Int) ≤ p; omega),
    decide_eq_true (show (p : Int) ≤ (4095#32).toInt by show (p : Int) ≤ 4095; omega)]
  rfl

/-- The positions after the wrap-round of negative ones: still 0, 1, …, 4095. -/
theorem wrapped_eq (zero off : IVec Pos 32) (hz : ∀ j, zero j = 0#32) :
    select (cmpi .slt (iotaInDim Pos 32 0) zero) (addi (iotaInDim Pos 32 0) off) (iotaInDim Pos 32 0) = iotaInDim Pos 32 0 := by
  funext j
  show Scalar.select (IntOp.cmpi .slt (BitVec.ofNat 32 (j 0).val) (zero j)) _ (iotaInDim Pos 32 0 j) = iotaInDim Pos 32 0 j
  rw [hz, pos_not_neg (show (j 0).val < 4096 from (j 0).isLt)]
  rfl

/-- The column of positions holds `p` in its row `p`. -/
theorem column_apply (h : Pos.BroadcastsInDim PosCol (![0] : Fin 1 → Fin 2)) (i : PosCol.Idx) :
    broadcastInDim PosCol ![0] h (iotaInDim Pos 32 0) i = BitVec.ofNat 32 (i 0).val :=
  (broadcastInDim_apply _ h _ i (ix1 (i 0)) fun a => by
    match a with | ⟨0, _⟩ => show (i 0).val = if (4096 : Nat) = 1 then 0 else (i 0).val; rw [if_neg (by decide)]).trans rfl

/-- Every row passes the range check: the conjunction over its one start index is true. -/
theorem checked (idx lo hi : IVec PosCol 32) (one : IVec ⟨0, ![]⟩ 1) (hr : PosCol.ReducesTo [1] Pos)
    (hu : 0 < (⟨0, ![]⟩ : Shape).numel) (hidx : ∀ i, idx i = BitVec.ofNat 32 (i 0).val) (hlo : ∀ i, lo i = 0#32)
    (hhi : ∀ i, hi i = 4095#32) (hone : ∀ j, one j = 1#1) (p : Pos.Idx) :
    Host.reduce IntOp.andi (andi (cmpi .sge idx lo) (cmpi .sle idx hi)) one hr hu p = 1#1 := by
  refine Host.reduce_andi_one _ _ hr hu p (hone _) fun i => ?_
  show IntOp.andi (IntOp.cmpi .sge (idx i) (lo i)) (IntOp.cmpi .sle (idx i) (hi i)) = 1#1
  rw [hidx, hlo, hhi]
  exact pos_in_table (i 0).isLt

/-- The gather at the column of positions returns the table. -/
theorem gathered {α : Type} (d : GatherDims Table PosCol Table) (hoff : d.offsetDims = [1]) (hcoll : d.collapsedSliceDims = [0])
    (hob : d.operandBatchingDims = []) (hsim : d.startIndexMap = [0]) (hivd : d.indexVectorDim = 1) (pe : Table.Idx → α)
    (idx : IVec PosCol 32) (hidx : ∀ i, idx i = BitVec.ofNat 32 (i 0).val) : Host.gather d pe idx = pe := by
  funext k
  rw [eq_ix2 k]
  exact Routing.gather_row d hoff hcoll hob hsim hivd pe idx (k 0) (k 1) (k 0) (hidx _) (by decide)

/-- The whole lookup at the positions 0, 1, …, 4095 returns the table, whatever word `nan` a row outside it would get. -/
theorem take_eq (d : GatherDims Table PosCol Table) (hoff : d.offsetDims = [1]) (hcoll : d.collapsedSliceDims = [0])
    (hob : d.operandBatchingDims = []) (hsim : d.startIndexMap = [0]) (hivd : d.indexVectorDim = 1)
    (pe nan : Vec F Table .f32) (zero off : IVec Pos 32) (lo hi : IVec PosCol 32) (one : IVec ⟨0, ![]⟩ 1)
    (hcol : Pos.BroadcastsInDim PosCol (![0] : Fin 1 → Fin 2)) (hr : PosCol.ReducesTo [1] Pos)
    (hu : 0 < (⟨0, ![]⟩ : Shape).numel) (hrow : Pos.BroadcastsInDim Table (![0] : Fin 1 → Fin 2))
    (hz : ∀ j, zero j = 0#32) (hlo : ∀ i, lo i = 0#32) (hhi : ∀ i, hi i = 4095#32) (hone : ∀ j, one j = 1#1) :
    let at_ : IVec PosCol 32 := broadcastInDim (s := Pos) PosCol (![0] : Fin 1 → Fin 2) hcol
      (select (cmpi .slt (iotaInDim Pos 32 0) zero) (addi (iotaInDim Pos 32 0) off) (iotaInDim Pos 32 0))
    select (broadcastInDim (s := Pos) Table (![0] : Fin 1 → Fin 2) hrow (Host.reduce IntOp.andi (andi (cmpi .sge at_ lo) (cmpi .sle at_ hi)) one hr hu))
      (Host.gather d pe at_) nan = pe := by
  intro at_
  have hat : ∀ i, at_ i = BitVec.ofNat 32 (i 0).val := fun i => by
    show broadcastInDim (s := Pos) PosCol (![0] : Fin 1 → Fin 2) hcol _ i = _
    rw [wrapped_eq zero off hz]
    exact column_apply hcol i
  rw [gathered d hoff hcoll hob hsim hivd pe at_ hat]
  funext k
  show Scalar.select (broadcastInDim (s := Pos) Table (![0] : Fin 1 → Fin 2) hrow _ k) (pe k) (nan k) = pe k
  have hk : broadcastInDim (s := Pos) Table (![0] : Fin 1 → Fin 2) hrow (Host.reduce IntOp.andi (andi (cmpi .sge at_ lo) (cmpi .sle at_ hi)) one hr hu) k = 1#1 :=
    checked at_ lo hi one hr hu hat hlo hhi hone _
  rw [hk]
  rfl

/-- The table, repeated for every sequence of the batch and added to it, is `withPositions`. -/
theorem batched_add (x : Vec F Batch .f32) (pe : Vec F Table .f32)
    (h1 : Table.BroadcastsInDim ⟨3, ![1, 4096, 2048]⟩ (![1, 2] : Fin 2 → Fin 3))
    (h2 : Shape.BroadcastsInDim ⟨3, ![1, 4096, 2048]⟩ Batch (![0, 1, 2] : Fin 3 → Fin 3)) :
    addf x (broadcastInDim (s := ⟨3, ![1, 4096, 2048]⟩) Batch (![0, 1, 2] : Fin 3 → Fin 3) h2
      (broadcastInDim (s := Table) ⟨3, ![1, 4096, 2048]⟩ (![1, 2] : Fin 2 → Fin 3) h1 pe)) = withPositions x pe := by
  funext i
  refine congrArg (FloatOps.addf (x i)) ?_
  refine (broadcastInDim_apply _ h2 _ i (ix3 (0 : Fin 1) (i 1) (i 2)) fun a => ?_).trans
    (broadcastInDim_apply _ h1 _ _ (ix2 (i 1) (i 2)) fun a => ?_)
  · match a with
    | ⟨0, _⟩ => exact (if_pos rfl).symm
    | ⟨1, _⟩ => exact (if_neg (by decide : ¬(4096 : Nat) = 1)).symm
    | ⟨2, _⟩ => exact (if_neg (by decide : ¬(2048 : Nat) = 1)).symm
  · match a with
    | ⟨0, _⟩ => exact (if_neg (by decide : ¬(4096 : Nat) = 1)).symm
    | ⟨1, _⟩ => exact (if_neg (by decide : ¬(2048 : Nat) = 1)).symm

end Cert.Sum

end
-- ==== Proof.Sum.ReferenceIdeal.lean ====
/- What the idealized reference leaves in its result array, in any float arithmetic (read off at the extended reals). -/
module

public import proofs.«01_k».proof.Proof.Sum.Take
public import proofs.«01_k».proof.Proof.Gen.ReferenceIdeal.Run

@[expose] public section

noncomputable section

namespace Cert.Sum.ReferenceIdeal

open Cert.ReferenceIdeal Cert.ReferenceIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-- Every execution of the reference ends with the sum in the result array and its arguments unchanged. -/
theorem run : θ_run defs (onTc (τ := τ) (main (F := F))) ⟨m, fun _ => 0, ρ⟩ fun r => ∀ c : Dev nD,
      r.2.mem ((c.tc : Thread nD τ).loc main_v4)
        = withPositions (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [take_eq _ rfl rfl rfl rfl rfl]
      case hz => exact fun _ => rfl
      case hlo => exact fun _ => rfl
      case hhi => exact fun _ => rfl
      case hone => exact fun _ => rfl
      exact batched_add _ _ _ _), (h c).2⟩) (Value.run m ρ)

/-- The frame: the arguments end unchanged, and the program has no semaphore. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.Sum.ReferenceIdeal

end
-- ==== Proof.lean ====
/- The claims: both programs, and their idealizations, run to the end without fault, keep their arguments and leave every
   semaphore counter at zero; the kernel and the reference end with the same result array, over the extended reals and
   word for word in floats. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel.Value
public import proofs.«01_k».proof.Proof.Gen.Reference
public import proofs.«01_k».proof.Proof.Gen.Reference.Run
public import proofs.«01_k».proof.Proof.Gen.KernelIdeal.Value
public import proofs.«01_k».proof.Proof.Gen.ReferenceIdeal.Run
public import proofs.«01_k».proof.Proof.Sum.Kernel
public import proofs.«01_k».proof.Proof.Sum.KernelIdeal
public import proofs.«01_k».proof.Proof.Sum.Reference
public import proofs.«01_k».proof.Proof.Sum.ReferenceIdeal
public import Idealize.ShloMosaic.Adequacy
public import Idealize.ShloMosaic.Init

@[expose] public section

noncomputable section

namespace Cert.Proof

open Idealize.ShloMosaic Idealize.SL.Sem

/-- Over the extended reals both result arrays are `withPositions` of the same arguments. -/
theorem algebraic : Cert.algebraic_KernelIdeal_ReferenceIdeal := by
  intro m ρ m' ρ' _ same
  refine ⟨_, Cert.Sum.KernelIdeal.run (F := Ideal) m ρ,
    (θ_run _ _ _).mono (fun _ h c => ⟨(h c).1.trans ?_, (h c).2⟩) (Cert.Sum.ReferenceIdeal.run (F := Ideal) m' ρ')⟩
  rw [(same c).1, (same c).2]

/-- In floats, too: each result is one float addition of the same two words, whatever that addition returns. -/
theorem bitexact : Cert.bitexact_Kernel_Reference := by
  intro m ρ m' ρ' _ same
  refine ⟨_, Cert.Sum.Kernel.run (F := Bits) m ρ,
    (θ_run _ _ _).mono (fun _ h c => ⟨(h c).1.trans ?_, (h c).2⟩) (Cert.Sum.Reference.run (F := Bits) m' ρ')⟩
  rw [(same c).1, (same c).2]

theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    fun m ρ _ => Cert.Sum.ReferenceIdeal.frame m ρ, fun m ρ _ => Cert.Sum.Reference.frame m ρ,
    trivial, algebraic, bitexact⟩

end Cert.Proof

end
